-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)

variable [Facts]

def fn {F : FTy → Type} [FloatOps F] (main_arg0 : FVec F S8192x3 .f32) (main_arg1 : FVec F S8192x3 .f32) : IVec S8192x3 1 × IVec S8192x3 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_v3 : FVec F S8192x3 .f32 := Host.absf main_arg1
  let main_cst_0 : FVec F S_ .f32 := constant S_ .f32 0x7F800000#32
  let main_v4 : FVec F S8192x3 .f32 := broadcastInDim S8192x3 ![] bcast_S_S8192x3 main_cst_0
  let main_v5 : IVec S8192x3 1 := cmpf .olt main_v3 main_v4
  (main_v2, main_v5)
-- ==== Kernel.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S8192x7 : Shape := ⟨2, ![8192, 7]⟩
abbrev S8192x16 : Shape := ⟨2, ![8192, 16]⟩
abbrev S3x8192 : Shape := ⟨2, ![3, 8192]⟩
abbrev S1x8192 : Shape := ⟨2, ![1, 8192]⟩
abbrev S7x8192 : Shape := ⟨2, ![7, 8192]⟩
abbrev S16x8192 : Shape := ⟨2, ![16, 8192]⟩
abbrev S1x1 : Shape := ⟨2, ![1, 1]⟩
abbrev S2048x16 : Shape := ⟨2, ![2048, 16]⟩
abbrev S2048x8192 : Shape := ⟨2, ![2048, 8192]⟩
abbrev S2048 : Shape := ⟨1, ![2048]⟩
abbrev S1x2048 : Shape := ⟨2, ![1, 2048]⟩
abbrev S1 : Shape := ⟨1, ![1]⟩
abbrev S1x1x8192 : Shape := ⟨3, ![1, 1, 8192]⟩
abbrev S1x1x1 : Shape := ⟨3, ![1, 1, 1]⟩

abbrev nBuf : Space → Nat
  | .hbm => 47
  | .vmem => 5
  | .smem => 1
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .bf16⟩
  | .hbm, ⟨7, _⟩ => ⟨S8192x1, .bf16⟩
  | .hbm, ⟨8, _⟩ => ⟨S8192x1, .f32⟩
  | .hbm, ⟨9, _⟩ => ⟨S8192x1, .f32⟩
  | .hbm, ⟨10, _⟩ => ⟨S8192x1, .bf16⟩
  | .hbm, ⟨11, _⟩ => ⟨S8192x1, .bf16⟩
  | .hbm, ⟨12, _⟩ => ⟨S8192x1, .f32⟩
  | .hbm, ⟨13, _⟩ => ⟨S8192x1, .f32⟩
  | .hbm, ⟨14, _⟩ => ⟨S8192x1, .bf16⟩
  | .hbm, ⟨15, _⟩ => ⟨S8192x1, .bf16⟩
  | .hbm, ⟨16, _⟩ => ⟨S8192x1, .f32⟩
  | .hbm, ⟨17, _⟩ => ⟨S_, .f32⟩
  | .hbm, ⟨18, _⟩ => ⟨S8192x3, .f32⟩
  | .hbm, ⟨19, _⟩ => ⟨S_, .f32⟩
  | .hbm, ⟨20, _⟩ => ⟨S8192x7, .f32⟩
  | .hbm, ⟨21, _⟩ => ⟨S8192x16, .f32⟩
  | .hbm, ⟨22, _⟩ => ⟨S3x8192, .f32⟩
  | .hbm, ⟨23, _⟩ => ⟨S3x8192, .f32⟩
  | .hbm, ⟨24, _⟩ => ⟨S_, .f32⟩
  | .hbm, ⟨25, _⟩ => ⟨S8192, .f32⟩
  | .hbm, ⟨26, _⟩ => ⟨S1x8192, .f32⟩
  | .hbm, ⟨27, _⟩ => ⟨S1x8192, .bf16⟩
  | .hbm, ⟨28, _⟩ => ⟨S1x8192, .bf16⟩
  | .hbm, ⟨29, _⟩ => ⟨S1x8192, .f32⟩
  | .hbm, ⟨30, _⟩ => ⟨S1x8192, .f32⟩
  | .hbm, ⟨31, _⟩ => ⟨S1x8192, .bf16⟩
  | .hbm, ⟨32, _⟩ => ⟨S1x8192, .bf16⟩
  | .hbm, ⟨33, _⟩ => ⟨S1x8192, .f32⟩
  | .hbm, ⟨34, _⟩ => ⟨S1x8192, .f32⟩
  | .hbm, ⟨35, _⟩ => ⟨S1x8192, .bf16⟩
  | .hbm, ⟨36, _⟩ => ⟨S1x8192, .bf16⟩
  | .hbm, ⟨37, _⟩ => ⟨S1x8192, .f32⟩
  | .hbm, ⟨38, _⟩ => ⟨S_, .f32⟩
  | .hbm, ⟨39, _⟩ => ⟨S3x8192, .f32⟩
  | .hbm, ⟨40, _⟩ => ⟨S3x8192, .f32⟩
  | .hbm, ⟨41, _⟩ => ⟨S_, .f32⟩
  | .hbm, ⟨42, _⟩ => ⟨S3x8192, .f32⟩
  | .hbm, ⟨43, _⟩ => ⟨S_, .f32⟩
  | .hbm, ⟨44, _⟩ => ⟨S7x8192, .f32⟩
  | .hbm, ⟨45, _⟩ => ⟨S16x8192, .f32⟩
  | .hbm, ⟨46, _⟩ => ⟨S1x1, .f32⟩
  | .local _ .vmem, ⟨0, _⟩ => ⟨S2048x16, .f32⟩
  | .local _ .vmem, ⟨1, _⟩ => ⟨S2048x16, .f32⟩
  | .local _ .vmem, ⟨2, _⟩ => ⟨S16x8192, .f32⟩
  | .local _ .vmem, ⟨3, _⟩ => ⟨S1x1, .f32⟩
  | .local _ .vmem, ⟨4, _⟩ => ⟨S1x8192, .f32⟩
  | .local _ .smem, ⟨0, _⟩ => ⟨S1x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x3, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S3x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x1, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Consts.lean ====
/- The numbers that the programs' constant words stand for. -/
module

public import Idealize.ShloMosaic.Lib.Pointwise

@[expose] public section

noncomputable section

namespace Cert.Chamfer

open Idealize.ShloMosaic

/-- The word `7F800000` is plus infinity. -/
theorem word_inf : Ideal.ofBits .f32 0x7F800000#32 = ⊤ := by
  simp [Ideal.ofBits, Ideal.ieee, -EReal.coe_mul]

/-- The word `C0000000` is minus two. -/
theorem word_neg_two : Ideal.ofBits .f32 0xC0000000#32 = ((-2 : ℝ) : EReal) := by
  simp [Ideal.ofBits, Ideal.ieee, -EReal.coe_mul]; norm_num

/-- The word `40000000` is two. -/
theorem word_two : Ideal.ofBits .f32 0x40000000#32 = ((2 : ℝ) : EReal) := by
  simp [Ideal.ofBits, Ideal.ieee, -EReal.coe_mul]; norm_num

/-- The word `46000000` is 8192. -/
theorem word_8192 : Ideal.ofBits .f32 0x46000000#32 = ((8192 : ℝ) : EReal) := by
  simp [Ideal.ofBits, Ideal.ieee, -EReal.coe_mul]; norm_num

/-- The word `40A00000` is five. -/
theorem word_five : Ideal.ofBits .f32 0x40A00000#32 = ((5 : ℝ) : EReal) := by
  simp [Ideal.ofBits, Ideal.ieee, -EReal.coe_mul]; norm_num

/-- The word `41200000` is ten. -/
theorem word_ten : Ideal.ofBits .f32 0x41200000#32 = ((10 : ℝ) : EReal) := by
  simp [Ideal.ofBits, Ideal.ieee, -EReal.coe_mul]; norm_num

end Cert.Chamfer

end
-- ==== Proof.Finite.lean ====
/- What the claim's precondition says: every coordinate of either cloud is a real number. -/
module

public import proofs.«01_k».proof.Pre_finite
public import proofs.«01_k».proof.Proof.Consts

@[expose] public section

noncomputable section

namespace Cert.Pre_finite.Chamfer

open Idealize.ShloMosaic
open Cert.Pre_finite Cert.Chamfer

/-- The one shape relation that the precondition states. -/
theorem facts : Facts := ⟨by decide⟩

/-- An extended real whose absolute value is below plus infinity is a real number. -/
theorem real_of_abs_lt (x : EReal) (h : max x (-x) < ⊤) : ∃ r : ℝ, x = (r : EReal) := by
  induction x with
  | bot => simp at h
  | coe r => exact ⟨r, rfl⟩
  | top => simp at h

/-- An element of the comparison of absolute values with plus infinity. -/
theorem compare_apply [Facts] (x : FVec Ideal S8192x3 .f32) (i : Fin 8192) (k : Fin 3) :
    cmpf .olt (Host.absf x) (broadcastInDim S8192x3 ![] Facts.bcast_S_S8192x3 (constant S_ .f32 0x7F800000#32 : FVec Ideal S_ .f32)) (ix2 i k)
      = BitVec.ofBool (decide (max (x (ix2 i k)) (-x (ix2 i k)) < ⊤)) := by
  pointwise [word_inf]
  rfl

/-- An array that passes the comparison everywhere has real elements. -/
theorem reals_of_compare [Facts] (x : FVec Ideal S8192x3 .f32)
    (h : cmpf .olt (Host.absf x) (broadcastInDim S8192x3 ![] Facts.bcast_S_S8192x3 (constant S_ .f32 0x7F800000#32 : FVec Ideal S_ .f32))
      = fun _ => 1#1) :
    ∃ X : Fin 8192 → Fin 3 → ℝ, ∀ i k, x (ix2 i k) = (X i k : EReal) := by
  have e : ∀ i k, ∃ r : ℝ, x (ix2 i k) = (r : EReal) := fun i k => by
    refine real_of_abs_lt _ ?_
    have hb := (compare_apply x i k).symm.trans (congrFun h _)
    by_contra hn
    rw [decide_eq_false hn] at hb
    exact absurd hb (by decide)
  choose X hX using e
  exact ⟨X, hX⟩

/-- Under the precondition both clouds have real coordinates. -/
theorem reals [Facts] (t o : FVec Ideal S8192x3 .f32)
    (h : (fn (F := Ideal) t o).1 = (fun _ => 1#1) ∧ (fn (F := Ideal) t o).2 = (fun _ => 1#1)) :
    (∃ T : Fin 8192 → Fin 3 → ℝ, ∀ i k, t (ix2 i k) = (T i k : EReal))
      ∧ ∃ O : Fin 8192 → Fin 3 → ℝ, ∀ i k, o (ix2 i k) = (O i k : EReal) :=
  ⟨reals_of_compare t h.1, reals_of_compare o h.2⟩

end Cert.Pre_finite.Chamfer

end
-- ==== Proof.CaseValues.lean ====
/- What one grid point of the kernel leaves behind, in each of its three cases: the two carried scratch
   blocks (the column minima so far, and the running sum of the rows' distances) and, at the last point,
   the result block. Each is named by the pure computation the body stores. -/
module

public import proofs.«01_k».proof.Proof.Gen.KernelIdeal.Value
public import Idealize.ShloMosaic.Lib.Pipeline.Value
public import Idealize.ShloMosaic.Lib.Tactic
public import Idealize.ShloMosaic.Lib.Pointwise

@[expose] public section

set_option maxRecDepth 16384

noncomputable section

namespace Cert.KernelIdeal.Chamfer

open Idealize.ShloMosaic Idealize.ShloMosaic.TcCoe Idealize.ShloMosaic.Tactic
open Cert.KernelIdeal Cert.KernelIdeal.Gen

variable {F : FTy → Type} [FloatOps F]

/-- The literal offset vector `[0, 0]` is zero on each axis. -/
theorem origin2 : (![0, 0] : Fin 2 → Nat) = fun _ => 0 := by
  funext a; fin_cases a <;> rfl

/-- A one-element array has one index. -/
theorem idx1x1 (x y : S1x1.Idx) : x = y := by
  funext k
  match k with
  | ⟨0, _⟩ => exact Subsingleton.elim (α := Fin 1) _ _
  | ⟨1, _⟩ => exact Subsingleton.elim (α := Fin 1) _ _

section Cases
variable (c : Dev nD) (i : grid0.Coords)
  (q1 : Memref sig .tc .vmem S2048x16 .f32) (w1 : q1.IsWhole)
  (q2 : Memref sig .tc .vmem S16x8192 .f32) (w2 : q2.IsWhole)
  (q3 : Memref sig .tc .vmem S1x1 .f32) (w3 : q3.IsWhole)
  (q4 : Memref sig .tc .vmem S1x8192 .f32) (w4 : q4.IsWhole)
  (q5 : Memref sig .tc .smem S1x1 .f32) (w5 : q5.IsWhole)
  (a : Vec F S2048x16 .f32) (b : Vec F S16x8192 .f32)
  (d : Vec F S1x8192 .f32) (s : Vec F S1x1 .f32)

/-- The first point leaves the column minima of its own tile. -/
theorem first_columns (k0 : cond0_0 i) (k1 : ¬cond0_1 i) (k2 : ¬cond0_2 i) :
    sout0_A_0 c i q1 w1 q2 w2 q3 w3 q4 w4 q5 w5 k0 k1 k2 a b = k0_pay4 a b := by
  unfold sout0_A_0
  rw [View.read_writes_eq_canon _ _ _ (scover0_A_0 c i q1 w1 q2 w2 q3 w3 q4 w4 q5 w5 k0 k1 k2 a b)]
  unfold kernelRun0_A
  dsimp only
  rw [View.canon_unit_zero origin2]
  simp only [View.readAt_eq_ld, w1.read_unread, w2.read_unread, View.ld_unit_zero (S := S2048x16) origin2,
    View.ld_unit_zero (S := S16x8192) origin2]

/-- The first point leaves its own tile's sum of row distances. -/
theorem first_sum (k0 : cond0_0 i) (k1 : ¬cond0_1 i) (k2 : ¬cond0_2 i) :
    sout0_A_1 c i q1 w1 q2 w2 q3 w3 q4 w4 q5 w5 k0 k1 k2 a b = fun _ => k0_pay2 a b := by
  unfold sout0_A_1
  rw [View.read_writes_eq_canon _ _ _ (scover0_A_1 c i q1 w1 q2 w2 q3 w3 q4 w4 q5 w5 k0 k1 k2 a b)]
  unfold kernelRun0_A
  dsimp only
  rw [View.canon_unit_zero origin2]
  simp only [View.readAt_eq_ld, w1.read_unread, w2.read_unread, View.ld_unit_zero (S := S2048x16) origin2,
    View.ld_unit_zero (S := S16x8192) origin2]
  rfl

/-- A middle point leaves the smaller of the old column minima and its own tile's. -/
theorem middle_columns (k0 : ¬cond0_0 i) (k1 : cond0_1 i) (k2 : ¬cond0_2 i) :
    sout0_B_0 c i q1 w1 q2 w2 q3 w3 q4 w4 q5 w5 k0 k1 k2 a b d s = k0_pay6 a b d := by
  unfold sout0_B_0
  rw [View.read_writes_eq_canon _ _ _ (scover0_B_0 c i q1 w1 q2 w2 q3 w3 q4 w4 q5 w5 k0 k1 k2 a b d s)]
  unfold kernelRun0_B
  dsimp only
  rw [View.canon_unit_zero origin2]
  simp only [View.readAt_eq_ld, w1.read_unread, w2.read_unread, w4.read_unread,
    View.ld_unit_zero (S := S2048x16) origin2, View.ld_unit_zero (S := S16x8192) origin2,
    View.ld_unit_zero (S := S1x8192) origin2]

/-- A middle point adds its own tile's sum of row distances to the old sum. -/
theorem middle_sum (k0 : ¬cond0_0 i) (k1 : cond0_1 i) (k2 : ¬cond0_2 i) :
    sout0_B_1 c i q1 w1 q2 w2 q3 w3 q4 w4 q5 w5 k0 k1 k2 a b d s = fun _ => k0_pay5 a b (s (ix2 0 0)) := by
  unfold sout0_B_1
  rw [View.read_writes_eq_canon _ _ _ (scover0_B_1 c i q1 w1 q2 w2 q3 w3 q4 w4 q5 w5 k0 k1 k2 a b d s)]
  unfold kernelRun0_B
  dsimp only
  rw [View.canon_unit_zero origin2]
  simp only [View.readAt_eq_ld, w1.read_unread, w2.read_unread, w5.read_unread,
    View.ld_unit_zero (S := S2048x16) origin2, View.ld_unit_zero (S := S16x8192) origin2,
    View.ld_unit_zero (S := S1x1) origin2]
  sl_unfold_words
  simp only [View.readAt_eq_ld, w5.read_unread, View.ld_unit_zero (S := S1x1) origin2]
  funext _
  exact congrArg (fun k => k0_pay5 a b (s k)) (idx1x1 _ _)

/-- The last point's result: the loss of the completed column minima and the completed sum. -/
theorem last_result (k0 : ¬cond0_0 i) (k1 : cond0_1 i) (k2 : cond0_2 i) :
    out0_C_2 c i q1 w1 q2 w2 q3 w3 q4 w4 q5 w5 k0 k1 k2 a b d s
      = k0_pay7 (k0_pay6 a b d) (k0_pay5 a b (s (ix2 0 0))) := by
  unfold out0_C_2
  rw [View.read_writes_eq_canon _ _ _ (cover0_C_2 c i q1 w1 q2 w2 q3 w3 q4 w4 q5 w5 k0 k1 k2 a b d s)]
  unfold kernelRun0_C
  dsimp only
  sl_unfold_words
  rw [View.canon_unit_zero (S := S1x1) origin2, View.readCov_unit_zero (S := S1x8192) _ origin2]
  simp only [View.readAt_eq_ld, w1.read_unread, w2.read_unread, w4.read_unread, w5.read_unread,
    View.ld_unit_zero (S := S2048x16) origin2, View.ld_unit_zero (S := S16x8192) origin2,
    View.ld_unit_zero (S := S1x8192) origin2, View.ld_unit_zero (S := S1x1) origin2]
  exact congrArg (fun k => k0_pay7 (k0_pay6 a b d) (k0_pay5 a b (s k))) (idx1x1 _ _)

end Cases

end Cert.KernelIdeal.Chamfer

end
-- ==== Proof.Sweep.lean ====
/- The kernel's four grid points in order: what the two carried scratch blocks hold after each, and so what
   the result array holds at the end. -/
module

public import proofs.«01_k».proof.Proof.CaseValues

@[expose] public section

set_option maxRecDepth 16384

noncomputable section

namespace Cert.KernelIdeal.Chamfer

open Idealize.ShloMosaic Idealize.ShloMosaic.TcCoe
open Cert.KernelIdeal Cert.KernelIdeal.Gen Cert.KernelIdeal.Value

variable {F : FTy → Type} [FloatOps F]
variable (m : (ℓ : Loc nD τ sig) → Buf (Elt F) ℓ)

/-- The column minima over the tiles up to point `n`. -/
def columns (c : Dev nD) : (n : ℕ) → n < cfg0.N → Vec F S1x8192 .f32
  | 0, h => k0_pay4 (iblk m c 0 ⟨0, h⟩) (iblk m c 1 ⟨0, h⟩)
  | n + 1, h => k0_pay6 (iblk m c 0 ⟨n + 1, h⟩) (iblk m c 1 ⟨n + 1, h⟩) (columns c n (Nat.lt_of_succ_lt h))

/-- The sum of the rows' distances over the tiles up to point `n`. -/
def rowSum (c : Dev nD) : (n : ℕ) → n < cfg0.N → F .f32
  | 0, h => k0_pay2 (iblk m c 0 ⟨0, h⟩) (iblk m c 1 ⟨0, h⟩)
  | n + 1, h => k0_pay5 (iblk m c 0 ⟨n + 1, h⟩) (iblk m c 1 ⟨n + 1, h⟩) (rowSum c n (Nat.lt_of_succ_lt h))

/-- After each of the first three points the scratch holds the column minima and the running sum. -/
theorem carried (c : Dev nD) : ∀ (n : ℕ) (h : n < cfg0.N), n < 3 →
    (outsAt0 m c n h).2 = (columns m c n h, fun _ => rowSum m c n h)
  | 0, h, _ => by
    rw [outsAt0_zero, stAt0_A m c ⟨0, h⟩ junk0 (Nat.zero_mod 4) (by dsimp only; omega) (by dsimp only; omega)]
    dsimp only
    rw [first_columns, first_sum]
    rfl
  | n + 1, h, hn => by
    have ih := carried c n (Nat.lt_of_succ_lt h) (by omega)
    rw [outsAt0_succ, stAt0_B m c ⟨n + 1, h⟩ _ (by dsimp only; omega) (by dsimp only; omega) (by dsimp only; omega)]
    dsimp only
    rw [middle_columns, middle_sum, ih]
    rfl

/-- The grid's last point is point 3. -/
theorem last_lt : 3 < cfg0.N := lt_of_lt_of_eq (by decide) N_0.symm

/-- The result array ends holding the loss of the completed column minima and the completed row sum. -/
theorem result_eq (c : Dev nD) :
    G2 m c = k0_pay7 (columns m c 3 last_lt) (rowSum m c 3 last_lt) := by
  have ih := carried m c 2 (Nat.lt_of_succ_lt last_lt) (by omega)
  rw [G2_last, ← outsAt0_sweep m c 3 last_lt, outsAt0_succ,
    stAt0_C m c ⟨3, last_lt⟩ _ (by decide) (by decide) (by decide)]
  dsimp only
  rw [last_result, ih]
  rfl

end Cert.KernelIdeal.Chamfer

end
-- ==== Proof.Lift.lean ====
/- The two arrays the host prepares for the kernel: each point of the first cloud as a row of 16 numbers, each
   point of the second as a column of 16 numbers, such that the inner product of a row and a column is the
   squared distance of the points. -/
module

public import proofs.«01_k».proof.Proof.Gen.KernelIdeal.Value
public import Idealize.ShloMosaic.Lib.StableHlo.Run
public import Idealize.ShloMosaic.Lib.Claim
public import Idealize.ShloMosaic.Lib.Pointwise

@[expose] public section

set_option maxRecDepth 16384

noncomputable section

namespace Cert.KernelIdeal.Chamfer

open Idealize.ShloMosaic Idealize.ShloMosaic.TcCoe Idealize.ShloMosaic.StableHlo
open Cert.KernelIdeal Cert.KernelIdeal.Gen

section Terms
variable {F : FTy → Type} [FloatOps F]

/-- A column of numbers rounded to the short format and widened again. -/
def roundCol (x : FVec F S8192x1 .f32) : FVec F S8192x1 .f32 := extf .f32 (truncf .bf16 x bitsLt_bf16_f32) bitsLt_bf16_f32

/-- A row of numbers rounded to the short format and widened again. -/
def roundRow (x : FVec F S1x8192 .f32) : FVec F S1x8192 .f32 := extf .f32 (truncf .bf16 x bitsLt_bf16_f32) bitsLt_bf16_f32

/-- The squared lengths of the first cloud's points, as a column. -/
def lengthsCol (t : FVec F S8192x3 .f32) : FVec F S8192x1 .f32 :=
  broadcastInDim S8192x1 ![0] bcast_S8192_S8192x1_0
    (Host.reduceAdd (mulf t t) (constant S_ .f32 0x00000000#32) reducesTo_S8192x3_S8192_d1 h_S_)

/-- The squared lengths of the second cloud's points, as a row. -/
def lengthsRow (u : FVec F S3x8192 .f32) : FVec F S1x8192 .f32 :=
  broadcastInDim S1x8192 ![1] bcast_S8192_S1x8192_1
    (Host.reduceAdd (mulf u u) (constant S_ .f32 0x00000000#32) reducesTo_S3x8192_S8192_d0 h_S_)

/-- The first cloud's rows from the points and the squared lengths `x`. -/
def rowsOf (t : FVec F S8192x3 .f32) (x : FVec F S8192x1 .f32) : FVec F S8192x16 .f32 :=
  concatenate S8192x16 1 [⟨S8192x3, t⟩, ⟨S8192x1, roundCol x⟩, ⟨S8192x1, roundCol (subf x (roundCol x))⟩,
    ⟨S8192x1, roundCol (subf (subf x (roundCol x)) (roundCol (subf x (roundCol x))))⟩,
    ⟨S8192x3, broadcastInDim S8192x3 ![] bcast_S_S8192x3 (constant S_ .f32 0x3F800000#32 : FVec F S_ .f32)⟩,
    ⟨S8192x7, broadcastInDim S8192x7 ![] bcast_S_S8192x7 (constant S_ .f32 0x00000000#32 : FVec F S_ .f32)⟩]
    concatenates_S8192x3_S8192x1_S8192x1_S8192x1_S8192x3_S8192x7_S8192x16_d1

/-- The second cloud's columns from the transposed points and the squared lengths `x`. -/
def colsOf (u : FVec F S3x8192 .f32) (x : FVec F S1x8192 .f32) : FVec F S16x8192 .f32 :=
  concatenate S16x8192 0 [⟨S3x8192, mulf (broadcastInDim S3x8192 ![] bcast_S_S3x8192 (constant S_ .f32 0xC0000000#32 : FVec F S_ .f32)) u⟩,
    ⟨S3x8192, broadcastInDim S3x8192 ![] bcast_S_S3x8192 (constant S_ .f32 0x3F800000#32 : FVec F S_ .f32)⟩,
    ⟨S1x8192, roundRow x⟩, ⟨S1x8192, roundRow (subf x (roundRow x))⟩,
    ⟨S1x8192, roundRow (subf (subf x (roundRow x)) (roundRow (subf x (roundRow x))))⟩,
    ⟨S7x8192, broadcastInDim S7x8192 ![] bcast_S_S7x8192 (constant S_ .f32 0x00000000#32 : FVec F S_ .f32)⟩]
    concatenates_S3x8192_S3x8192_S1x8192_S1x8192_S1x8192_S7x8192_S16x8192_d0

/-- The second cloud, transposed. -/
def turned (o : FVec F S8192x3 .f32) : FVec F S3x8192 .f32 := transpose S3x8192 [1, 0] o transposes_S8192x3_S3x8192_1_0

variable (m : (ℓ : Loc nD τ sig) → Buf (Elt F) ℓ)

set_option maxHeartbeats 2000000 in
/-- The kernel's first operand is the first cloud's rows. -/
theorem rows_eq (c : Dev nD) : V m c main_v16
    = rowsOf (m ((c : Thread nD τ).loc main_arg0)) (lengthsCol (m ((c : Thread nD τ).loc main_arg0))) := by
  unfold V hostOps0
  after_results_simp <;> rfl

set_option maxHeartbeats 2000000 in
/-- The kernel's second operand is the second cloud's columns. -/
theorem cols_eq (c : Dev nD) : V m c main_v36
    = colsOf (turned (m ((c : Thread nD τ).loc main_arg1))) (lengthsRow (turned (m ((c : Thread nD τ).loc main_arg1)))) := by
  unfold V hostOps0
  after_results_simp <;> rfl
end Terms

/-- A row's 16 numbers: the point, its squared length and that number's two remainders, three ones, seven zeros. -/
theorem rowsOf_apply (t : FVec Ideal S8192x3 .f32) (x : FVec Ideal S8192x1 .f32) (i : Fin 8192) (k : Fin 16) :
    rowsOf t x (ix2 i k)
      = (![t (ix2 i 0), t (ix2 i 1), t (ix2 i 2), x (ix2 i 0), x (ix2 i 0) - x (ix2 i 0),
          (x (ix2 i 0) - x (ix2 i 0)) - (x (ix2 i 0) - x (ix2 i 0)), 1, 1, 1, 0, 0, 0, 0, 0, 0, 0] : Fin 16 → EReal) k := by
  fin_cases k <;> pointwise [rowsOf, roundCol]

/-- A column's 16 numbers: minus twice the point, three ones, its squared length and that number's two
    remainders, seven zeros. -/
theorem colsOf_apply (u : FVec Ideal S3x8192 .f32) (x : FVec Ideal S1x8192 .f32) (j : Fin 8192) (k : Fin 16) :
    colsOf u x (ix2 k j)
      = (![Ideal.ofBits .f32 0xC0000000#32 * u (ix2 0 j), Ideal.ofBits .f32 0xC0000000#32 * u (ix2 1 j),
          Ideal.ofBits .f32 0xC0000000#32 * u (ix2 2 j), 1, 1, 1, x (ix2 0 j), x (ix2 0 j) - x (ix2 0 j),
          (x (ix2 0 j) - x (ix2 0 j)) - (x (ix2 0 j) - x (ix2 0 j)), 0, 0, 0, 0, 0, 0, 0] : Fin 16 → EReal) k := by
  fin_cases k <;> pointwise [colsOf, roundRow]

/-- The squared length of a point of the first cloud. -/
theorem lengthsCol_apply (t : FVec Ideal S8192x3 .f32) (i : Fin 8192) :
    lengthsCol t (ix2 i 0) = ∑ k : Fin 3, t (ix2 i k) * t (ix2 i k) := by
  pointwise [lengthsCol]

/-- The squared length of a point of the second cloud, over the transposed points. -/
theorem lengthsRow_apply (u : FVec Ideal S3x8192 .f32) (j : Fin 8192) :
    lengthsRow u (ix2 0 j) = ∑ k : Fin 3, u (ix2 k j) * u (ix2 k j) := by
  pointwise [lengthsRow]

/-- The transposed cloud's element. -/
theorem turned_apply (o : FVec Ideal S8192x3 .f32) (k : Fin 3) (j : Fin 8192) :
    turned o (ix2 k j) = o (ix2 j k) := by
  pointwise [turned]

end Cert.KernelIdeal.Chamfer

end
-- ==== Proof.Tiles.lean ====
/- Facts about extended reals that mention no program: the 8192 rows as four tiles of 2048, a clamp moved through
   a minimum, the last scaling written two ways, and the squared distance as an inner product of 16 terms. -/
module

public import Idealize.ShloMosaic.Lib.Pointwise

@[expose] public section

noncomputable section

namespace Cert.Chamfer

open Idealize.ShloMosaic

/-- Row `r` of tile `q`, as a row of the whole array. -/
def tileRow (q : Fin 4) (r : Fin 2048) : Fin 8192 := ⟨2048 * q.val + r.val, by omega⟩

/-- Every row lies in a tile. -/
theorem exists_tileRow (i : Fin 8192) : ∃ q r, tileRow q r = i :=
  ⟨⟨i.val / 2048, by omega⟩, ⟨i.val % 2048, by omega⟩, Fin.ext (Nat.div_add_mod _ _)⟩

/-- A sum over the rows is the sum over the tiles of the sums over a tile's rows. -/
theorem sum_tiles (f : Fin 8192 → EReal) : ∑ i, f i = ∑ q, ∑ r, f (tileRow q r) := by
  rw [← Fintype.sum_prod_type']
  refine (Fintype.sum_bijective (fun p : Fin 4 × Fin 2048 => tileRow p.1 p.2) ⟨?_, ?_⟩ _ _ fun _ => rfl).symm
  · rintro ⟨q, r⟩ ⟨q', r'⟩ h
    have h' : 2048 * q.val + r.val = 2048 * q'.val + r'.val := congrArg Fin.val h
    have hq : q = q' := Fin.ext (by omega)
    have hr : r = r' := Fin.ext (by omega)
    rw [hq, hr]
  · intro i
    obtain ⟨q, r, h⟩ := exists_tileRow i
    exact ⟨(q, r), h⟩

/-- A minimum over the rows is the minimum over the tiles of the minima over a tile's rows. -/
theorem inf_tiles (f : Fin 8192 → EReal) :
    Finset.univ.inf f = Finset.univ.inf fun q => Finset.univ.inf fun r => f (tileRow q r) := by
  apply le_antisymm
  · exact Finset.le_inf fun q _ => Finset.le_inf fun r _ => Finset.inf_le (Finset.mem_univ _)
  · refine Finset.le_inf fun i _ => ?_
    obtain ⟨q, r, rfl⟩ := exists_tileRow i
    exact (Finset.inf_le (Finset.mem_univ q)).trans (Finset.inf_le (Finset.mem_univ r))

/-- A minimum over four tiles, taken one after the other. -/
theorem inf_four (g : Fin 4 → EReal) : Finset.univ.inf g = min (min (min (g 0) (g 1)) (g 2)) (g 3) := by
  apply le_antisymm
  · refine le_min (le_min (le_min ?_ ?_) ?_) ?_ <;> exact Finset.inf_le (Finset.mem_univ _)
  · refine Finset.le_inf fun q _ => ?_
    fin_cases q
    · exact (min_le_left _ _).trans ((min_le_left _ _).trans (min_le_left _ _))
    · exact (min_le_left _ _).trans ((min_le_left _ _).trans (min_le_right _ _))
    · exact (min_le_left _ _).trans (min_le_right _ _)
    · exact min_le_right _ _

/-- A fold of minima from plus infinity is the least of the family. -/
theorem fold_min {n : ℕ} (f : Fin n → EReal) : Finset.univ.fold min ⊤ f = Finset.univ.inf f := rfl

/-- Clamping a minimum below at zero is the minimum of the clamped family. -/
theorem clamp_inf {n : ℕ} (f : Fin n → EReal) : max (Finset.univ.inf f) 0 = Finset.univ.inf fun j => max (f j) 0 :=
  Finset.comp_inf_eq_inf_comp_of_is_total (fun x => max x 0)
    (fun _ _ h => max_le_max h le_rfl) (top_sup_eq _)

/-- Five times a sum is ten times its half. -/
theorem scale_eq (x : EReal) : x * ((5 : ℝ) : EReal) = Ideal.div x ((2 : ℝ) : EReal) * ((10 : ℝ) : EReal) := by
  rw [Ideal.div_coe (by norm_num : (2 : ℝ) ≠ 0) x, mul_assoc, ← EReal.coe_mul]
  norm_num

/-- The squared distance of two points with number coordinates: the squared lengths less twice the inner product. -/
def sqDist (t o : Fin 8192 → Fin 3 → EReal) (i j : Fin 8192) : EReal :=
  (∑ k, t i k * t i k) + (∑ k, o j k * o j k) - ((2 : ℝ) : EReal) * ∑ k, t i k * o j k

/-- The inner product of two vectors of 16, of the shapes that the prepared rows and columns have. -/
theorem inner16 (a0 a1 a2 a3 a4 a5 b0 b1 b2 b3 b4 b5 : EReal) :
    ∑ k : Fin 16, (![a0, a1, a2, a3, a4, a5, 1, 1, 1, 0, 0, 0, 0, 0, 0, 0] : Fin 16 → EReal) k
        * (![b0, b1, b2, 1, 1, 1, b3, b4, b5, 0, 0, 0, 0, 0, 0, 0] : Fin 16 → EReal) k
      = a0 * b0 + a1 * b1 + a2 * b2 + a3 * 1 + a4 * 1 + a5 * 1 + 1 * b3 + 1 * b4 + 1 * b5 := by
  simp [Fin.sum_univ_succ, add_assoc]

/-- The inner product of a prepared row and a prepared column is the squared distance, when the coordinates are
    numbers: the two remainders of a squared length are then zero. -/
theorem inner_eq (t o : Fin 3 → ℝ) :
    ((t 0 : EReal) * (((-2 : ℝ) : EReal) * o 0) + t 1 * (((-2 : ℝ) : EReal) * o 1) + t 2 * (((-2 : ℝ) : EReal) * o 2)
      + (∑ k, (t k : EReal) * t k) * 1 + ((∑ k, (t k : EReal) * t k) - ∑ k, (t k : EReal) * t k) * 1
      + (((∑ k, (t k : EReal) * t k) - ∑ k, (t k : EReal) * t k) - ((∑ k, (t k : EReal) * t k) - ∑ k, (t k : EReal) * t k)) * 1
      + 1 * (∑ k, (o k : EReal) * o k) + 1 * ((∑ k, (o k : EReal) * o k) - ∑ k, (o k : EReal) * o k)
      + 1 * (((∑ k, (o k : EReal) * o k) - ∑ k, (o k : EReal) * o k) - ((∑ k, (o k : EReal) * o k) - ∑ k, (o k : EReal) * o k)))
      = (∑ k, (t k : EReal) * t k) + (∑ k, (o k : EReal) * o k) - ((2 : ℝ) : EReal) * ∑ k, (t k : EReal) * o k := by
  simp only [Fin.sum_univ_three, mul_one, one_mul, ← EReal.coe_mul, ← EReal.coe_add, ← EReal.coe_sub]
  congr 1
  ring

/-- The loss: ten times half the sum of the two mean distances, each point to the nearest of the other cloud. -/
def loss (t o : Fin 8192 → Fin 3 → EReal) : EReal :=
  Ideal.div (Ideal.div (∑ i, Ideal.sqrt (Finset.univ.inf fun j => max (sqDist t o i j) 0)) ((8192 : ℝ) : EReal)
    + Ideal.div (∑ j, Ideal.sqrt (Finset.univ.inf fun i => max (sqDist t o i j) 0)) ((8192 : ℝ) : EReal))
    ((2 : ℝ) : EReal) * ((10 : ℝ) : EReal)

end Cert.Chamfer

end
-- ==== Proof.Blocks.lean ====
/- The blocks that a grid point is handed: the point's tile of the prepared rows, and all the prepared columns. -/
module

public import proofs.«01_k».proof.Proof.Lift
public import proofs.«01_k».proof.Proof.Tiles

@[expose] public section

set_option maxRecDepth 16384

noncomputable section

namespace Cert.KernelIdeal.Chamfer

open Idealize.ShloMosaic Idealize.ShloMosaic.TcCoe
open Cert.KernelIdeal Cert.KernelIdeal.Gen Cert.Chamfer

variable {F : FTy → Type} [FloatOps F]
variable (m : (ℓ : Loc nD τ sig) → Buf (Elt F) ℓ)

/-- Point `q`'s block of the rows is tile `q`. -/
theorem rowsBlock_apply (c : Dev nD) (q : Fin 4) (h : q.val < cfg0.N) (r : Fin 2048) (k : Fin 16) :
    (iblk m c 0 ⟨q.val, h⟩ : Vec F S2048x16 .f32) (ix2 r k) = V m c main_v16 (ix2 (tileRow q r) k) := by
  have hi : win0_0.index ⟨q.val, h⟩ 0 = q.val ∧ win0_0.index ⟨q.val, h⟩ 1 = 0 := by
    revert h
    fin_cases q <;> decide
  unfold iblk
  rw [View.read_apply]
  show V m c main_v16 _ = V m c main_v16 _
  congr 1
  funext x
  apply Fin.ext
  match x with
  | ⟨0, _⟩ => show win0_0.index ⟨q.val, h⟩ 0 * 2048 + 1 * r.val = 2048 * q.val + r.val; rw [hi.1]; omega
  | ⟨1, _⟩ => show win0_0.index ⟨q.val, h⟩ 1 * 16 + 1 * k.val = k.val; rw [hi.2]; omega

/-- Every point's block of the columns is all of them. -/
theorem colsBlock_apply (c : Dev nD) (q : Fin 4) (h : q.val < cfg0.N) (k : Fin 16) (l : Fin 8192) :
    (iblk m c 1 ⟨q.val, h⟩ : Vec F S16x8192 .f32) (ix2 k l) = V m c main_v36 (ix2 k l) := by
  have hi : win0_1.index ⟨q.val, h⟩ 0 = 0 ∧ win0_1.index ⟨q.val, h⟩ 1 = 0 := by
    revert h
    fin_cases q <;> decide
  unfold iblk
  rw [View.read_apply]
  show V m c main_v36 _ = V m c main_v36 _
  congr 1
  funext x
  apply Fin.ext
  match x with
  | ⟨0, _⟩ => show win0_1.index ⟨q.val, h⟩ 0 * 16 + 1 * k.val = k.val; rw [hi.1]; omega
  | ⟨1, _⟩ => show win0_1.index ⟨q.val, h⟩ 1 * 8192 + 1 * l.val = l.val; rw [hi.2]; omega

end Cert.KernelIdeal.Chamfer

end
-- ==== Proof.Payloads.lean ====
/- What the body's pure computations are worth, element by element, over the extended reals. -/
module

public import proofs.«01_k».proof.Proof.Gen.KernelIdeal.Skeleton
public import proofs.«01_k».proof.Proof.Gen.KernelIdeal
public import Idealize.ShloMosaic.Lib.Pointwise
public import proofs.«01_k».proof.Proof.Consts
public import proofs.«01_k».proof.Proof.Tiles

@[expose] public section

set_option maxRecDepth 16384

noncomputable section

namespace Cert.KernelIdeal.Chamfer

open Idealize.ShloMosaic
open Cert.KernelIdeal Cert.KernelIdeal.Gen Cert.Chamfer

variable (a : Vec Ideal S2048x16 .f32) (b : Vec Ideal S16x8192 .f32)

/-- The tile's product at row `r`, column `l`: the inner product of 16 terms. -/
theorem tile_apply (r : Fin 2048) (l : Fin 8192) :
    k0_pay1 a b (ix2 r l) = ∑ k : Fin 16, a (ix2 r k) * b (ix2 k l) := by
  pointwise [k0_pay1, dot_S2048x16_S16x8192_S2048x8192_1_0_0_1_n_n]

/-- The total of a vector of 2048 numbers, taken through a one-row matrix. -/
theorem total_apply (x : FVec Ideal S2048 .f32) :
    extractAt ![0, 0] (shapeCast S1x1 (multiReduction .add [1] S1 (shapeCast S1x2048 x shapeCasts_S2048_S1x2048)
      0x00000000#32 reduces_S1x2048_S1 (.inl rfl) rfl : FVec Ideal S1 .f32) shapeCasts_S1_S1x1) inpos_S1x1_p0_0
      = ∑ r : Fin 2048, x (ix1 r) := by
  pointwise

/-- The minimum of a tile's row. -/
theorem rowMin_apply (x : FVec Ideal S2048x8192 .f32) (r : Fin 2048) :
    (multiReduction .minimumf [1] S2048 x 0x7F800000#32 reduces_S2048x8192_S2048 (.inl rfl) rfl : FVec Ideal S2048 .f32) (ix1 r)
      = (Finset.univ : Finset (Fin 8192)).fold min (Ideal.ofBits .f32 0x7F800000#32) fun l => x (ix2 r l) := by
  pointwise

/-- The minimum of a tile's column. -/
theorem colMin_apply (x : FVec Ideal S2048x8192 .f32) (l : Fin 8192) :
    (multiReduction .minimumf [0] S8192 x 0x7F800000#32 reduces_S2048x8192_S8192 (.inl rfl) rfl : FVec Ideal S8192 .f32) (ix1 l)
      = (Finset.univ : Finset (Fin 2048)).fold min (Ideal.ofBits .f32 0x7F800000#32) fun r => x (ix2 r l) := by
  pointwise

/-- The root of a vector clamped below at zero, at an element. -/
theorem rootClamp_apply (x : FVec Ideal S2048 .f32) (r : Fin 2048) :
    sqrt (maximumf x (broadcast S2048 (Scalar.ofBits .f32 0x00000000#32 : Ideal .f32))) (ix1 r) = Ideal.sqrt (max (x (ix1 r)) 0) := by
  pointwise

/-- The minimum of row `r` of a tile's product. -/
def rowLeast (r : Fin 2048) : EReal := Finset.univ.inf fun l : Fin 8192 => k0_pay1 a b (ix2 r l)

/-- The minimum of column `l` of a tile's product. -/
def colLeast (l : Fin 8192) : EReal := Finset.univ.inf fun r : Fin 2048 => k0_pay1 a b (ix2 r l)

/-- A tile's contribution to the running sum: the distances of its rows. -/
theorem tileSum_apply : k0_pay2 a b = ∑ r : Fin 2048, Ideal.sqrt (max (rowLeast a b r) 0) := by
  unfold k0_pay2 rowLeast
  generalize k0_pay1 a b = e
  refine (total_apply _).trans (Finset.sum_congr rfl fun r _ => ?_)
  rw [rootClamp_apply, rowMin_apply, word_inf, fold_min]

/-- A tile's column minima. -/
theorem tileColumn_apply (l : Fin 8192) : k0_pay3 a b (ix2 0 l) = colLeast a b l := by
  pointwise [k0_pay3, word_inf]
  rfl

/-- The first tile's column minima, as stored. -/
theorem firstColumn_apply (l : Fin 8192) : k0_pay4 a b (ix2 0 l) = colLeast a b l := by
  pointwise [k0_pay4]
  exact tileColumn_apply a b l

/-- The running sum with a tile added. -/
theorem addedSum_apply (s : Ideal .f32) : k0_pay5 a b s = s + k0_pay2 a b := by
  pointwise [k0_pay5]

/-- The running column minima with a tile taken in. -/
theorem nextColumn_apply (d : Vec Ideal S1x8192 .f32) (l : Fin 8192) :
    k0_pay6 a b d (ix2 0 l) = min (d (ix2 0 l)) (colLeast a b l) := by
  rw [← tileColumn_apply]
  pointwise [k0_pay6]

/-- The loss block from the completed column minima and the completed row sum. -/
theorem lossBlock_apply (d : Vec Ideal S1x8192 .f32) (s : Ideal .f32) :
    k0_pay7 d s (ix2 0 0) = (Ideal.div s ((8192 : ℝ) : EReal)
      + Ideal.div (∑ l : Fin 8192, Ideal.sqrt (max (d (ix2 0 l)) 0)) ((8192 : ℝ) : EReal)) * ((5 : ℝ) : EReal) := by
  pointwise [k0_pay7, word_8192, word_five]
  rw [Fin.sum_univ_one]

end Cert.KernelIdeal.Chamfer

end
-- ==== Proof.KernelLoss.lean ====
/- The kernel's result, over clouds whose coordinates are numbers: the loss of the two clouds. -/
module

public import proofs.«01_k».proof.Proof.Sweep
public import proofs.«01_k».proof.Proof.Blocks
public import proofs.«01_k».proof.Proof.Payloads

@[expose] public section

set_option maxRecDepth 16384

noncomputable section

namespace Cert.KernelIdeal.Chamfer

open Idealize.ShloMosaic Idealize.ShloMosaic.TcCoe
open Cert.KernelIdeal Cert.KernelIdeal.Gen Cert.KernelIdeal.Value Cert.Chamfer

/-- The inner product of a prepared row and a prepared column, when the coordinates are numbers. -/
theorem prepared_inner (t o : FVec Ideal S8192x3 .f32) (T O : Fin 8192 → Fin 3 → ℝ)
    (hT : ∀ i k, t (ix2 i k) = (T i k : EReal)) (hO : ∀ j k, o (ix2 j k) = (O j k : EReal)) (i j : Fin 8192) :
    ∑ k : Fin 16, rowsOf t (lengthsCol t) (ix2 i k) * colsOf (turned o) (lengthsRow (turned o)) (ix2 k j)
      = sqDist (fun i k => t (ix2 i k)) (fun j k => o (ix2 j k)) i j := by
  simp only [rowsOf_apply, colsOf_apply, lengthsCol_apply, lengthsRow_apply, turned_apply, hT, hO, word_neg_two, sqDist]
  rw [← inner_eq (T i) (O j)]
  exact inner16 ..

section Result
variable (m : (ℓ : Loc nD τ sig) → Buf (Elt Ideal) ℓ) (c : Dev nD)

/-- The first cloud, as launched. -/
def first (i : Fin 8192) (k : Fin 3) : EReal := (m ((c : Thread nD τ).loc main_arg0) : FVec Ideal S8192x3 .f32) (ix2 i k)

/-- The second cloud, as launched. -/
def second (i : Fin 8192) (k : Fin 3) : EReal := (m ((c : Thread nD τ).loc main_arg1) : FVec Ideal S8192x3 .f32) (ix2 i k)

variable (T O : Fin 8192 → Fin 3 → ℝ) (hT : ∀ i k, first m c i k = (T i k : EReal)) (hO : ∀ i k, second m c i k = (O i k : EReal))
include hT hO

/-- Tile `q`'s product is the squared distances of its rows to all columns. -/
theorem tileProduct (q : Fin 4) (h : q.val < cfg0.N) (r : Fin 2048) (l : Fin 8192) :
    k0_pay1 (iblk m c 0 ⟨q.val, h⟩) (iblk m c 1 ⟨q.val, h⟩) (ix2 r l) = sqDist (first m c) (second m c) (tileRow q r) l := by
  refine (tile_apply _ _ r l).trans (Eq.trans ?_ (prepared_inner _ _ T O hT hO (tileRow q r) l))
  refine Finset.sum_congr rfl fun k _ => ?_
  rw [rowsBlock_apply m c q h r k, colsBlock_apply m c q h k l, rows_eq, cols_eq]

/-- A tile's row minimum, clamped, is the least clamped squared distance of that row. -/
theorem tileRowLeast (q : Fin 4) (h : q.val < cfg0.N) (r : Fin 2048) :
    max (rowLeast (iblk m c 0 ⟨q.val, h⟩) (iblk m c 1 ⟨q.val, h⟩) r) 0
      = Finset.univ.inf fun l : Fin 8192 => max (sqDist (first m c) (second m c) (tileRow q r) l) 0 := by
  rw [rowLeast, clamp_inf]
  exact congrArg _ (funext fun l => by rw [tileProduct m c T O hT hO q h r l])

/-- A tile's contribution to the running sum. -/
theorem tileRoots (q : Fin 4) (h : q.val < cfg0.N) :
    k0_pay2 (iblk m c 0 ⟨q.val, h⟩) (iblk m c 1 ⟨q.val, h⟩)
      = ∑ r : Fin 2048, Ideal.sqrt (Finset.univ.inf fun l : Fin 8192 => max (sqDist (first m c) (second m c) (tileRow q r) l) 0) := by
  refine (tileSum_apply _ _).trans (Finset.sum_congr rfl fun r _ => ?_)
  rw [tileRowLeast m c T O hT hO q h r]

/-- A tile's column minimum. -/
theorem tileColLeast (q : Fin 4) (h : q.val < cfg0.N) (l : Fin 8192) :
    colLeast (iblk m c 0 ⟨q.val, h⟩) (iblk m c 1 ⟨q.val, h⟩) l
      = Finset.univ.inf fun r : Fin 2048 => sqDist (first m c) (second m c) (tileRow q r) l := by
  rw [colLeast]
  exact Finset.inf_congr rfl fun r _ => tileProduct m c T O hT hO q h r l

/-- The completed sum is the sum over all rows. -/
theorem rowSum_last : rowSum m c 3 last_lt
    = ∑ i : Fin 8192, Ideal.sqrt (Finset.univ.inf fun l : Fin 8192 => max (sqDist (first m c) (second m c) i l) 0) := by
  have hN : cfg0.N = 4 := N_0
  rw [sum_tiles, Fin.sum_univ_four, ← tileRoots m c T O hT hO 0 (by rw [hN]; decide),
    ← tileRoots m c T O hT hO 1 (by rw [hN]; decide), ← tileRoots m c T O hT hO 2 (by rw [hN]; decide),
    ← tileRoots m c T O hT hO 3 (by rw [hN]; decide)]
  simp only [rowSum, addedSum_apply]
  rfl

/-- The completed column minima are the minima over all rows. -/
theorem columns_last (l : Fin 8192) : columns m c 3 last_lt (ix2 0 l)
    = Finset.univ.inf fun i : Fin 8192 => sqDist (first m c) (second m c) i l := by
  have hN : cfg0.N = 4 := N_0
  rw [inf_tiles, inf_four, ← tileColLeast m c T O hT hO 0 (by rw [hN]; decide),
    ← tileColLeast m c T O hT hO 1 (by rw [hN]; decide), ← tileColLeast m c T O hT hO 2 (by rw [hN]; decide),
    ← tileColLeast m c T O hT hO 3 (by rw [hN]; decide)]
  simp only [columns, nextColumn_apply, firstColumn_apply]
  rfl

/-- The kernel's result is the loss of the two clouds. -/
theorem result_apply (y : S1x1.Idx) : (G2 m c : FVec Ideal S1x1 .f32) y = loss (first m c) (second m c) := by
  rw [result_eq, idx1x1 y (ix2 0 0), lossBlock_apply, scale_eq, rowSum_last m c T O hT hO]
  simp only [columns_last m c T O hT hO, clamp_inf]
  rfl

end Result

end Cert.KernelIdeal.Chamfer

end
-- ==== Proof.ReferenceLoss.lean ====
/- The value of the reference's composed term: the loss of the two clouds. -/
module

public import proofs.«01_k».proof.Proof.Gen.ReferenceIdeal.Run
public import proofs.«01_k».proof.Proof.Gen.ReferenceIdeal
public import proofs.«01_k».proof.Proof.Consts
public import proofs.«01_k».proof.Proof.Tiles

@[expose] public section

set_option maxRecDepth 16384

noncomputable section

namespace Cert.ReferenceIdeal.Chamfer

open Idealize.ShloMosaic
open Cert.ReferenceIdeal Cert.ReferenceIdeal.Gen Cert.Chamfer

variable (t o : FVec Ideal S8192x3 .f32)

/-- The squared lengths of a cloud's points. -/
def lengths (x : FVec Ideal S8192x3 .f32) : FVec Ideal S8192 .f32 :=
  Host.reduceAdd (mulf x x) (constant S_ .f32 0x00000000#32) reducesTo_S8192x3_S8192_d1 h_S_

/-- All the squared distances, clamped below at zero. -/
def clamped : FVec Ideal S8192x8192 .f32 :=
  maximumf (subf (addf
      (broadcastInDim S8192x8192 ![0, 1] bcast_S8192x1_S8192x8192_0_1 (broadcastInDim S8192x1 ![0] bcast_S8192_S8192x1_0 (lengths t)))
      (broadcastInDim S8192x8192 ![0, 1] bcast_S1x8192_S8192x8192_0_1 (broadcastInDim S1x8192 ![1] bcast_S8192_S1x8192_1 (lengths o))))
    (mulf (broadcastInDim S8192x8192 ![] bcast_S_S8192x8192 (constant S_ .f32 0x40000000#32))
      (Host.dotGeneral dot_S8192x3_S3x8192_S8192x8192_1_0_0_1_n_n none t
        (transpose S3x8192 [1, 0] o transposes_S8192x3_S3x8192_1_0))))
    (broadcastInDim S8192x8192 ![] bcast_S_S8192x8192 (constant S_ .f32 0x00000000#32))

/-- The mean of the roots of 8192 numbers. -/
def meanRoot (x : FVec Ideal S8192 .f32) : FVec Ideal S_ .f32 :=
  Host.divf (Host.reduceAdd (Host.sqrt x) (constant S_ .f32 0x00000000#32) reducesTo_S8192_S_d0 h_S_) (constant S_ .f32 0x46000000#32)

/-- The least of each row. -/
def leastOfRows (x : FVec Ideal S8192x8192 .f32) : FVec Ideal S8192 .f32 :=
  Host.reduce FloatOps.minimumf x (constant S_ .f32 0x7F800000#32) reducesTo_S8192x8192_S8192_d1 h_S_

/-- The least of each column. -/
def leastOfColumns (x : FVec Ideal S8192x8192 .f32) : FVec Ideal S8192 .f32 :=
  Host.reduce FloatOps.minimumf x (constant S_ .f32 0x7F800000#32) reducesTo_S8192x8192_S8192_d0 h_S_

/-- The reference's result. -/
def result : FVec Ideal S1x1 .f32 :=
  shapeCast S1x1 (mulf (Host.divf (addf (meanRoot (leastOfRows (clamped t o))) (meanRoot (leastOfColumns (clamped t o))))
    (constant S_ .f32 0x40000000#32)) (constant S_ .f32 0x41200000#32)) shapeCasts_S_S1x1

/-- A squared length is the sum of three squares. -/
theorem lengths_apply (x : FVec Ideal S8192x3 .f32) (i : Fin 8192) :
    lengths x (ix1 i) = ∑ k : Fin 3, x (ix2 i k) * x (ix2 i k) := by
  pointwise [lengths]

/-- An element of the clamped distances. -/
theorem clamped_apply (i j : Fin 8192) :
    clamped t o (ix2 i j) = max (sqDist (fun i k => t (ix2 i k)) (fun i k => o (ix2 i k)) i j) 0 := by
  pointwise [clamped, dot_S8192x3_S3x8192_S8192x8192_1_0_0_1_n_n, lengths_apply, word_two, sqDist]

/-- The least of a row. -/
theorem leastOfRows_apply (x : FVec Ideal S8192x8192 .f32) (i : Fin 8192) :
    leastOfRows x (ix1 i) = Finset.univ.inf fun j : Fin 8192 => x (ix2 i j) := by
  pointwise [leastOfRows, word_inf]
  rfl

/-- The least of a column. -/
theorem leastOfColumns_apply (x : FVec Ideal S8192x8192 .f32) (j : Fin 8192) :
    leastOfColumns x (ix1 j) = Finset.univ.inf fun i : Fin 8192 => x (ix2 i j) := by
  pointwise [leastOfColumns, word_inf]
  rfl

/-- The mean of the roots. -/
theorem meanRoot_apply (x : FVec Ideal S8192 .f32) (y : S_.Idx) :
    meanRoot x y = Ideal.div (∑ i : Fin 8192, Ideal.sqrt (x (ix1 i))) ((8192 : ℝ) : EReal) := by
  pointwise [meanRoot, word_8192]

/-- The reference's result is the loss. -/
theorem result_apply (y : S1x1.Idx) :
    result t o y = loss (fun i k => t (ix2 i k)) (fun i k => o (ix2 i k)) := by
  pointwise [result, meanRoot_apply, leastOfRows_apply, leastOfColumns_apply, clamped_apply, word_two, word_ten]
  rfl

end Cert.ReferenceIdeal.Chamfer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Finite
public import proofs.«01_k».proof.Proof.KernelLoss
public import proofs.«01_k».proof.Proof.ReferenceLoss
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were, and has no counter to leave nonzero. -/
theorem referenceFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, sem_eq_zero_of_no_sems (by decide) r.2⟩)
    (Cert.ReferenceIdeal.Value.run m g)

/-- The kernel's result array and the reference's hold one loss. -/
theorem sameLoss [Cert.Pre_finite.Facts]
    (m : (ℓ : Loc Cert.KernelIdeal.nD Cert.KernelIdeal.τ Cert.KernelIdeal.sig) → Buf (Elt Ideal) ℓ)
    (hpre : Pre_KernelIdeal_finite m) (c : Dev Cert.KernelIdeal.nD) :
    Cert.ReferenceIdeal.Chamfer.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Value.G2 m c := by
  obtain ⟨⟨T, hT⟩, ⟨O, hO⟩⟩ := Cert.Pre_finite.Chamfer.reals _ _ (hpre c)
  funext y
  exact (Cert.ReferenceIdeal.Chamfer.result_apply _ _ y).trans
    (Cert.KernelIdeal.Chamfer.result_apply m c T O hT hO y).symm

/-- The kernel and the reference end with equal results. -/
theorem sameResults [Cert.Pre_finite.Facts] : algebraic_KernelIdeal_ReferenceIdeal_pre_finite := by
  intro m g m' g' hpre hagree
  refine ⟨fun c => Cert.KernelIdeal.Value.G2 m c, Cert.KernelIdeal.Value.run m g, ?_⟩
  refine (θ_run _ _ _).mono (fun r h c => ⟨(h c).1.trans ?_, (h c).2⟩) (Cert.ReferenceIdeal.Value.run m' g')
  rw [(hagree c).1, (hagree c).2]
  exact sameLoss m hpre c

/-- Every claim of the certificate. -/
theorem claim : Cert.Claim :=
  ⟨Cert.Kernel.Gen.facts, Cert.KernelIdeal.Gen.facts, Cert.ReferenceIdeal.Gen.facts, Cert.Pre_finite.Chamfer.facts,
    fun m ρ _ => Cert.Kernel.Gen.frame m ρ,
    fun m ρ _ => Cert.KernelIdeal.Gen.frame m ρ,
    fun m ρ _ => Cert.KernelIdeal.Gen.frame m ρ,
    fun m ρ _ => referenceFrame m ρ,
    fun m ρ _ => referenceFrame m ρ,
    trivial,
    haveI := Cert.Pre_finite.Chamfer.facts
    sameResults⟩

end Cert.Proof

end
